-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "c2" .bf16 0xC390#16 (((-200) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2x512x512 : Shape := ⟨4, ![16, 2, 512, 512]⟩
abbrev S32x512x512 : Shape := ⟨3, ![32, 512, 512]⟩
abbrev S_ : Shape := ⟨0, ![]⟩
abbrev S31 : Shape := ⟨1, ![31]⟩
abbrev S1 : Shape := ⟨1, ![1]⟩
abbrev S32 : Shape := ⟨1, ![32]⟩
abbrev S32x2 : Shape := ⟨2, ![32, 2]⟩
abbrev S64 : Shape := ⟨1, ![64]⟩
abbrev S64x1 : Shape := ⟨2, ![64, 1]⟩
abbrev S64x128 : Shape := ⟨2, ![64, 128]⟩
abbrev S16x64x64 : Shape := ⟨3, ![16, 64, 64]⟩
abbrev S1x512x512 : Shape := ⟨3, ![1, 512, 512]⟩
abbrev S1x64x64 : Shape := ⟨3, ![1, 64, 64]⟩
abbrev S1x1x512 : Shape := ⟨3, ![1, 1, 512]⟩
abbrev S1x512 : Shape := ⟨2, ![1, 512]⟩
abbrev S2x512 : Shape := ⟨2, ![2, 512]⟩
abbrev S1x2x512 : Shape := ⟨3, ![1, 2, 512]⟩
abbrev S32x2x512 : Shape := ⟨3, ![32, 2, 512]⟩
abbrev S64x512 : Shape := ⟨2, ![64, 512]⟩
abbrev S64x2048 : Shape := ⟨2, ![64, 2048]⟩
abbrev S64x64 : Shape := ⟨2, ![64, 64]⟩
abbrev S16x32x32 : Shape := ⟨3, ![16, 32, 32]⟩
abbrev S16x1x32x32 : Shape := ⟨4, ![16, 1, 32, 32]⟩

abbrev nBuf : Space → Nat
  | .hbm => 35
  | .vmem => 7
  | .smem => 0
  | _ => 0

abbrev bufTy : (tb : Table) → Fin (tcTables nBuf tb) → BufTy
  | .hbm, ⟨0, _⟩ => ⟨S16x2x512x512, .f32⟩
  | .hbm, ⟨1, _⟩ => ⟨S32x512x512, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S31, .f32⟩
  | .hbm, ⟨10, _⟩ => ⟨S_, .f32⟩
  | .hbm, ⟨11, _⟩ => ⟨S31, .f32⟩
  | .hbm, ⟨12, _⟩ => ⟨S31, .f32⟩
  | .hbm, ⟨13, _⟩ => ⟨S1, .f32⟩
  | .hbm, ⟨14, _⟩ => ⟨S_, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S31, .f32⟩
  | .hbm, ⟨19, _⟩ => ⟨S1, .f32⟩
  | .hbm, ⟨20, _⟩ => ⟨S31, .f32⟩
  | .hbm, ⟨21, _⟩ => ⟨S31, .f32⟩
  | .hbm, ⟨22, _⟩ => ⟨S31, .f32⟩
  | .hbm, ⟨23, _⟩ => ⟨S1, .f32⟩
  | .hbm, ⟨24, _⟩ => ⟨S32, .f32⟩
  | .hbm, ⟨25, _⟩ => ⟨S32x2, .f32⟩
  | .hbm, ⟨26, _⟩ => ⟨S64, .f32⟩
  | .hbm, ⟨27, _⟩ => ⟨S64, .bf16⟩
  | .hbm, ⟨28, _⟩ => ⟨S64x1, .bf16⟩
  | .hbm, ⟨29, _⟩ => ⟨S64x128, .bf16⟩
  | .hbm, ⟨30, _⟩ => ⟨S16x64x64, .f32⟩
  | .hbm, ⟨31, _⟩ => ⟨S16x32x32, .f32⟩
  | .hbm, ⟨32, _⟩ => ⟨S16x32x32, .f32⟩
  | .hbm, ⟨33, _⟩ => ⟨S16x32x32, .f32⟩
  | .hbm, ⟨34, _⟩ => ⟨S16x1x32x32, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S64x128, .bf16⟩
  | .local _ .vmem, ⟨5, _⟩ => ⟨S1x64x64, .f32⟩
  | .local _ .vmem, ⟨6, _⟩ => ⟨S1x64x64, .f32⟩
  | _, _ => ⟨S16x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v8961 : BitVec 1 := Scalar.cmpi .eq arg1 c0_i32
  let v8962 : BitVec 32 := Scalar.extui v8961
  let c0_i32_3137 : BitVec 32 := 0#32
  let v8963 : BitVec 1 := Scalar.cmpi .ne v8962 c0_i32_3137
  v8963

def k0_cond2 (i : grid0.Coords) : BitVec 1 :=
  let arg1 : BitVec 32 := BitVec.ofNat 32 (i 1).val
  let c0_i32_3138 : BitVec 32 := 0#32
  let v8964 : BitVec 1 := Scalar.cmpi .ne arg1 c0_i32_3138
  let v8965 : BitVec 32 := Scalar.extui v8964
  let c0_i32_3139 : BitVec 32 := 0#32
  let v8966 : BitVec 1 := Scalar.cmpi .ne v8965 c0_i32_3139
  v8966

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "c2" => some (((-200) * (Real.log 2)⁻¹ : ℝ) : EReal)
  | _ => none
-- ==== ReferenceIdeal.lean ====
abbrev S16x2x512x512 : Shape := ⟨4, ![16, 2, 512, 512]⟩
abbrev S_ : Shape := ⟨0, ![]⟩
abbrev S31 : Shape := ⟨1, ![31]⟩
abbrev S1 : Shape := ⟨1, ![1]⟩
abbrev S32 : Shape := ⟨1, ![32]⟩
abbrev S16x1x512x512 : Shape := ⟨4, ![16, 1, 512, 512]⟩
abbrev S16x512x512 : Shape := ⟨3, ![16, 512, 512]⟩
abbrev S16x262144 : Shape := ⟨2, ![16, 262144]⟩
abbrev S16x262144x1 : Shape := ⟨3, ![16, 262144, 1]⟩
abbrev S1x1x32 : Shape := ⟨3, ![1, 1, 32]⟩
abbrev S16x262144x32 : Shape := ⟨3, ![16, 262144, 32]⟩
abbrev S16x32x32 : Shape := ⟨3, ![16, 32, 32]⟩
abbrev S16x1x32x32 : Shape := ⟨4, ![16, 1, 32, 32]⟩

abbrev nBuf : Space → Nat
  | .hbm => 58
  | .vmem => 0
  | .smem => 0
  | _ => 0

abbrev bufTy : (tb : Table) → Fin (tcTables nBuf tb) → BufTy
  | .hbm, ⟨0, _⟩ => ⟨S16x2x512x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S16x1x512x512, .f32⟩
  | .hbm, ⟨25, _⟩ => ⟨S16x512x512, .f32⟩
  | .hbm, ⟨26, _⟩ => ⟨S16x262144, .f32⟩
  | .hbm, ⟨27, _⟩ => ⟨S16x1x512x512, .f32⟩
  | .hbm, ⟨28, _⟩ => ⟨S16x512x512, .f32⟩
  | .hbm, ⟨29, _⟩ => ⟨S16x262144, .f32⟩
  | .hbm, ⟨30, _⟩ => ⟨S16x262144x1, .f32⟩
  | .hbm, ⟨31, _⟩ => ⟨S1x1x32, .f32⟩
  | .hbm, ⟨32, _⟩ => ⟨S16x262144x32, .f32⟩
  | .hbm, ⟨33, _⟩ => ⟨S16x262144x32, .f32⟩
  | .hbm, ⟨34, _⟩ => ⟨S16x262144x32, .f32⟩
  | .hbm, ⟨35, _⟩ => ⟨S_, .f32⟩
  | .hbm, ⟨36, _⟩ => ⟨S16x262144x32, .f32⟩
  | .hbm, ⟨37, _⟩ => ⟨S16x262144x32, .f32⟩
  | .hbm, ⟨38, _⟩ => ⟨S16x262144x32, .f32⟩
  | .hbm, ⟨39, _⟩ => ⟨S_, .f32⟩
  | .hbm, ⟨40, _⟩ => ⟨S16x262144x32, .f32⟩
  | .hbm, ⟨41, _⟩ => ⟨S16x262144x32, .f32⟩
  | .hbm, ⟨42, _⟩ => ⟨S16x262144x32, .f32⟩
  | .hbm, ⟨43, _⟩ => ⟨S16x262144x1, .f32⟩
  | .hbm, ⟨44, _⟩ => ⟨S1x1x32, .f32⟩
  | .hbm, ⟨45, _⟩ => ⟨S16x262144x32, .f32⟩
  | .hbm, ⟨46, _⟩ => ⟨S16x262144x32, .f32⟩
  | .hbm, ⟨47, _⟩ => ⟨S16x262144x32, .f32⟩
  | .hbm, ⟨48, _⟩ => ⟨S_, .f32⟩
  | .hbm, ⟨49, _⟩ => ⟨S16x262144x32, .f32⟩
  | .hbm, ⟨50, _⟩ => ⟨S16x262144x32, .f32⟩
  | .hbm, ⟨51, _⟩ => ⟨S16x262144x32, .f32⟩
  | .hbm, ⟨52, _⟩ => ⟨S_, .f32⟩
  | .hbm, ⟨53, _⟩ => ⟨S16x262144x32, .f32⟩
  | .hbm, ⟨54, _⟩ => ⟨S16x262144x32, .f32⟩
  | .hbm, ⟨55, _⟩ => ⟨S16x262144x32, .f32⟩
  | .hbm, ⟨56, _⟩ => ⟨S16x32x32, .f32⟩
  | .hbm, ⟨57, _⟩ => ⟨S16x1x32x32, .f32⟩
  | _, _ => ⟨S16x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩

abbrev nD : Nat := 1
abbrev τ : Topo := Topo.v7x

variable {F : FTy → Type} [FloatOps F]
-- ==== Proof.Sums.lean ====
/- Sums over an index set cut into equal runs, and the rows of an image as 64 groups of four even and four odd rows. -/
module

public import Mathlib.Algebra.BigOperators.Fin
public import Mathlib.Logic.Equiv.Fin.Basic
public import Mathlib.Tactic.Abel

@[expose] public section

namespace Cert.HistSums

variable {M : Type} [AddCommMonoid M]

/-- A sum over `m * n` indices is the sum over `m` runs of `n`. -/
theorem sum_runs {N : ℕ} (m n : ℕ) (hN : N = m * n) (f : Fin N → M) :
    ∑ i, f i = ∑ a : Fin m, ∑ b : Fin n, f ⟨n * a.val + b.val, by
      subst hN
      calc n * a.val + b.val < n * a.val + n := by have := b.isLt; omega
        _ = n * (a.val + 1) := (Nat.mul_succ n a.val).symm
        _ ≤ n * m := Nat.mul_le_mul_left _ a.isLt
        _ = m * n := Nat.mul_comm _ _⟩ := by
  subst hN
  rw [← finProdFinEquiv.sum_comp, Fintype.sum_prod_type]
  refine Finset.sum_congr rfl fun a _ => Finset.sum_congr rfl fun b _ => congrArg f (Fin.ext ?_)
  simp [finProdFinEquiv, Nat.add_comm]

/-- The even and the odd rows of all groups are all the rows. -/
theorem sum_rows (f : Fin 512 → M) :
    (∑ g : Fin 64, ∑ j : Fin 4, f ⟨8 * g.val + 2 * j.val + 0, by omega⟩)
      + (∑ g : Fin 64, ∑ j : Fin 4, f ⟨8 * g.val + 2 * j.val + 1, by omega⟩) = ∑ r, f r := by
  rw [sum_runs 64 8 rfl f, ← Finset.sum_add_distrib]
  refine Finset.sum_congr rfl fun g _ => ?_
  rw [Fin.sum_univ_four, Fin.sum_univ_four, Fin.sum_univ_eight]
  simp only [Fin.val_zero, Fin.val_one, Fin.val_two, show ((3 : Fin 4) : ℕ) = 3 from rfl, show ((3 : Fin 8) : ℕ) = 3 from rfl,
    show ((4 : Fin 8) : ℕ) = 4 from rfl, show ((5 : Fin 8) : ℕ) = 5 from rfl, show ((6 : Fin 8) : ℕ) = 6 from rfl,
    show ((7 : Fin 8) : ℕ) = 7 from rfl, show ((2 : Fin 8) : ℕ) = 2 from rfl, Nat.mul_zero, Nat.mul_one, Nat.add_zero,
    Nat.reduceMul, Nat.add_assoc, Nat.reduceAdd]
  abel

end Cert.HistSums
-- ==== Proof.Gauss.lean ====
/- The Gaussian response over the extended reals. The reference spells it `exp (-1/2 · (20 d)²)`, the kernel
   `2 ^ (d² · c)` with `c = -200 / ln 2`: one function, at the infinities too. -/
module

public import Idealize.ShloMosaic.PureOps.Ideal
public import Idealize.ShloMosaic.PureOps.Ideal.Laws

@[expose] public section

noncomputable section

open Idealize.ShloMosaic

namespace Cert.Gauss

/-- The response to a distance, as the reference spells it. -/
def gauss (d : EReal) : EReal :=
  Ideal.exp (Ideal.ofBits .f32 0xBF000000#32 * (d * Ideal.ofBits .f32 0x41A00000#32 * (d * Ideal.ofBits .f32 0x41A00000#32)))

/-- The centre of bin `a`: `linspace(0, 1, 32)` as both programs compute it. -/
def bin (a : Fin 32) : EReal :=
  if _ : a.val < 31 then
    Ideal.ofBits .f32 0#32 * (1 - Ideal.div (FloatOps.sitofp (F := Ideal) .f32 (BitVec.ofNat 32 a.val)) (Ideal.ofBits .f32 0x41F80000#32))
      + Ideal.ofBits .f32 0x3F800000#32 * Ideal.div (FloatOps.sitofp (F := Ideal) .f32 (BitVec.ofNat 32 a.val)) (Ideal.ofBits .f32 0x41F80000#32)
  else Ideal.ofBits .f32 0x3F800000#32

theorem twenty : Ideal.ofBits .f32 0x41A00000#32 = ((20 : ℝ) : EReal) := by
  simp [Ideal.ofBits, Ideal.ieee, -EReal.coe_mul]; norm_num

theorem minus_half : Ideal.ofBits .f32 0xBF000000#32 = ((-(1 / 2) : ℝ) : EReal) := by
  simp [Ideal.ofBits, Ideal.ieee, -EReal.coe_mul]; norm_num

/-- On the reals: `2 ^ (d² · (-200 / ln 2)) = exp (-200 d²)`. -/
theorem rpow_eq (r : ℝ) : Real.rpow 2 (r * r * (-200 * (Real.log 2)⁻¹)) = Real.exp (-(1 / 2) * (r * 20 * (r * 20))) := by
  have h2 : Real.log 2 ≠ 0 := (Real.log_pos (by norm_num)).ne'
  show (2 : ℝ) ^ (r * r * (-200 * (Real.log 2)⁻¹)) = _
  rw [Real.rpow_def_of_pos (by norm_num : (0 : ℝ) < 2)]
  congr 1
  field_simp
  ring

theorem exp2_eq_gauss (d : EReal) : Ideal.exp2 (d * d * (((-200) * (Real.log 2)⁻¹ : ℝ) : EReal)) = gauss d := by
  have hc : (-200 : ℝ) * (Real.log 2)⁻¹ < 0 :=
    mul_neg_of_neg_of_pos (by norm_num) (inv_pos.mpr (Real.log_pos (by norm_num)))
  unfold gauss
  rw [twenty, minus_half]
  have p20 : (0 : ℝ) < 20 := by norm_num
  have nh : (-(1 / 2) : ℝ) < 0 := by norm_num
  induction d with
  | bot =>
    rw [EReal.bot_mul_bot, EReal.top_mul_coe_of_neg hc, EReal.bot_mul_coe_of_pos p20, EReal.bot_mul_bot,
      EReal.coe_mul_top_of_neg nh]
    rfl
  | top =>
    rw [EReal.top_mul_top, EReal.top_mul_coe_of_neg hc, EReal.top_mul_coe_of_pos p20, EReal.top_mul_top,
      EReal.coe_mul_top_of_neg nh]
    rfl
  | coe r =>
    simp only [← EReal.coe_mul]
    exact congrArg (fun x : ℝ => (x : EReal)) (rpow_eq r)

end Cert.Gauss

end
-- ==== Proof.Ref.lean ====
/- The reference's result read at an index over the extended reals: a sum over the 262144 pixels, and so over the rows
   and columns of the image. -/
module

public import proofs.«01_k».proof.Proof.Gen.ReferenceIdeal.Run
public import proofs.«01_k».proof.Proof.Sums
public import proofs.«01_k».proof.Proof.Gauss
public import Idealize.ShloMosaic.Lib.Pointwise

@[expose] public section

noncomputable section

open Idealize.ShloMosaic Idealize.ShloMosaic.TcCoe Idealize.SL.Sem

namespace Cert.ReferenceIdeal.Hist

open Cert.ReferenceIdeal Cert.ReferenceIdeal.Gen Cert.ReferenceIdeal.Value Cert.HistSums Cert.Gauss

set_option maxRecDepth 16384

variable (m : (ℓ : Loc nD τ sig) → Buf (Elt Ideal) ℓ)

/-- The image the run starts from. -/
abbrev img (c : Dev nD) (n : Fin 16) (p : Fin 2) (r l : Fin 512) : EReal :=
  (m ((c.tc : Thread nD τ).loc main_arg0) : Vec Ideal S16x2x512x512 .f32) (ix4 n p r l)

/-- An entry of the result. -/
abbrev entry (c : Dev nD) (n : Fin 16) (a b : Fin 32) : EReal :=
  (res_main_v30 m c : Vec Ideal S16x1x32x32 .f32) (ix4 n 0 a b)

/-- Entry `(a, b)` of image `n`: the product of the two responses summed over rows and columns. -/
theorem res_apply (c : Dev nD) (n : Fin 16) (a b : Fin 32) :
    entry m c n a b = ∑ r : Fin 512, ∑ l : Fin 512,
      gauss (img m c n 0 r l - bin a)
      * gauss (img m c n 1 r l - bin b) := by
  have e : entry m c n a b = ∑ x : Fin 262144,
      gauss (img m c n 0 ⟨x.val / 512, by omega⟩ ⟨x.val % 512, by omega⟩ - bin a)
      * gauss (img m c n 1 ⟨x.val / 512, by omega⟩ ⟨x.val % 512, by omega⟩ - bin b) := by
    pointwise [entry, res_main_v30]
    refine Finset.sum_congr rfl fun x _ => ?_
    unfold gauss bin
    rfl
  rw [e, sum_runs 512 512 rfl]
  refine Finset.sum_congr rfl fun r _ => Finset.sum_congr rfl fun l _ => ?_
  have hr : (⟨(512 * r.val + l.val) / 512, by omega⟩ : Fin 512) = r := Fin.ext (by dsimp only; omega)
  have hl : (⟨(512 * r.val + l.val) % 512, by omega⟩ : Fin 512) = l := Fin.ext (by dsimp only; omega)
  simp only [hr, hl]

end Cert.ReferenceIdeal.Hist

end
-- ==== Proof.Body.lean ====
/- What one grid point of the kernel leaves in its output block, as a closed term over the rows of its two image
   blocks: 64 groups, group `g` the dot product over 2048 lanes of the responses to rows `8g … 8g + 7`, added up
   first to last. The run's own term is cut where the printer cut it; the kernel of Lean compares the two. -/
module

public import proofs.«01_k».proof.Proof.Gen.KernelIdeal.Frame
public import Idealize.ShloMosaic.Lib.Pipeline.Value

@[expose] public section

noncomputable section

open Idealize.ShloMosaic Idealize.ShloMosaic.TcCoe Idealize.SL.Sem

namespace Cert.KernelIdeal.Hist

open Cert.KernelIdeal Cert.KernelIdeal.Gen

variable {F : FTy → Type} [FloatOps F] [Named F]

/-- Two image rows laid over the 64 sublanes (row `ra` on the even ones, `rb` on the odd ones), less the bin centres. -/
def pairDist (v1 : FVec F S64x1 .bf16) (ra rb : Vec F S1x1x512 .f32) : FVec F S64x512 .bf16 :=
  subf (shapeCast S64x512 (broadcastTo S32x2x512 (shapeCast S1x2x512 (shapeCast S1x2x512 (truncf .bf16
      (concatenate S2x512 0 [⟨S1x512, shapeCast S1x512 ra shapeCasts_S1x1x512_S1x512⟩,
        ⟨S1x512, shapeCast S1x512 rb shapeCasts_S1x1x512_S1x512⟩] concatenates_S1x512_S1x512_S2x512_d0)
      bitsLt_bf16_f32) shapeCasts_S2x512_S1x2x512) shapeCasts_S1x2x512_S1x2x512)
      broadcasts_S1x2x512_S32x2x512) shapeCasts_S32x2x512_S64x512)
    (broadcastTo S64x512 v1 broadcasts_S64x1_S64x512)

/-- The responses of a pair of rows to the bins. -/
def pairK (v1 : FVec F S64x1 .bf16) (ra rb : Vec F S1x1x512 .f32) : FVec F S64x512 .fp8e4m3 :=
  truncf .fp8e4m3 (exp2 (mulf (mulf (pairDist v1 ra rb) (pairDist v1 ra rb))
    (broadcast S64x512 (Named.named κ "c2" 0xC390#16)))) bitsLt_fp8e4m3_bf16

/-- The responses of the four pairs of rows of group `g`, side by side along the lanes. -/
def groupK (v1 : FVec F S64x1 .bf16) (a : Fin 512 → Vec F S1x1x512 .f32) (g : ℕ) (h : g < 64) : FVec F S64x2048 .fp8e4m3 :=
  concatenate S64x2048 1
    [⟨S64x512, pairK v1 (a ⟨8 * g, by omega⟩) (a ⟨8 * g + 1, by omega⟩)⟩,
     ⟨S64x512, pairK v1 (a ⟨8 * g + 2, by omega⟩) (a ⟨8 * g + 3, by omega⟩)⟩,
     ⟨S64x512, pairK v1 (a ⟨8 * g + 4, by omega⟩) (a ⟨8 * g + 5, by omega⟩)⟩,
     ⟨S64x512, pairK v1 (a ⟨8 * g + 6, by omega⟩) (a ⟨8 * g + 7, by omega⟩)⟩]
    concatenates_S64x512_S64x512_S64x512_S64x512_S64x2048_d1

/-- The histogram of group `g`. -/
def groupHist (v1 : FVec F S64x1 .bf16) (a b : Fin 512 → Vec F S1x1x512 .f32) (g : ℕ) (h : g < 64) : FVec F S64x64 .f32 :=
  matmul dot_S64x2048_S64x2048_S64x64_1_1_0_0_n_n none (groupK v1 a g h) (groupK v1 b g h)
    (constant S64x64 .f32 0x00000000#32)

/-- The groups `0 … g` added up, first to last. -/
def hist (v1 : FVec F S64x1 .bf16) (a b : Fin 512 → Vec F S1x1x512 .f32) : (g : ℕ) → g < 64 → FVec F S64x64 .f32
  | 0, h => groupHist v1 a b 0 h
  | g + 1, h => addf (hist v1 a b g (Nat.lt_of_succ_lt h)) (groupHist v1 a b (g + 1) h)

/-- Row `r` of an image block. -/
def row (x : Vec F S1x512x512 .f32) (r : Fin 512) : Vec F S1x1x512 .f32 :=
  View.ld (Val := Elt F) (S := S1x512x512) x (Rect.unit (s := S1x512x512) ![0, r.val, 0] S1x1x512.size
    (by have := r.isLt; intro a; fin_cases a <;> simp <;> omega))

/-- The bin column, lane 0 of the bin block. -/
def binCol (x : Vec F S64x128 .bf16) : FVec F S64x1 .bf16 :=
  shapeCast S64x1 (View.ld (Val := Elt F) (S := S64x128) x (Rect.unit (s := S64x128) ![0, 0] S64x1.size inb_S64x128_S64x1_0_0)) shapeCasts_S64x1_S64x1

theorem hz : (![0, 0, 0] : Fin 3 → Nat) = fun _ => 0 := funext fun a => by fin_cases a <;> rfl

set_option maxRecDepth 65536 in
theorem out_A (c : Dev nD) (i : grid0.Coords) (arg2 : Memref sig .tc .vmem S1x512x512 .f32) (harg2 : arg2.IsWhole)
    (arg3 : Memref sig .tc .vmem S1x512x512 .f32) (harg3 : arg3.IsWhole) (arg4 : Memref sig .tc .vmem S64x128 .bf16)
    (harg4 : arg4.IsWhole) (arg5 : Memref sig .tc .vmem S1x64x64 .f32) (harg5 : arg5.IsWhole) (hc0 : cond0_0 i)
    (hc1 : ¬cond0_1 i) (x0 x1 : Vec F S1x512x512 .f32) (x2 : Vec F S64x128 .bf16) :
    out0_A_3 c i arg2 harg2 arg3 harg3 arg4 harg4 arg5 harg5 hc0 hc1 x0 x1 x2
      = shapeCast S1x64x64 (hist (binCol (arg4.view.read (Elt F) (harg4.unread x2))) (row (arg2.view.read (Elt F) (harg2.unread x0)))
          (row (arg3.view.read (Elt F) (harg3.unread x1))) 63 (by decide)) shapeCasts_S64x64_S1x64x64 := by
  unfold out0_A_3
  rw [View.read_writes_eq_canon _ _ _ (cover0_A_3 c i arg2 harg2 arg3 harg3 arg4 harg4 arg5 harg5 hc0 hc1 x0 x1 x2)]
  have e : (kernelRun0_A c i arg2 harg2 arg3 harg3 arg4 harg4 arg5 harg5 hc0 hc1 x0 x1 x2).1
      = [⟨Rect.unit (s := S1x64x64) ![0, 0, 0] S1x64x64.size (by decide),
          shapeCast S1x64x64 (hist (binCol (arg4.view.read (Elt F) (harg4.unread x2))) (row (arg2.view.read (Elt F) (harg2.unread x0)))
          (row (arg3.view.read (Elt F) (harg3.unread x1))) 63 (by decide)) shapeCasts_S64x64_S1x64x64⟩] := by
    sl_kernel_rfl
  rw [e, View.canon_unit_zero hz]

end Cert.KernelIdeal.Hist

end
-- ==== Proof.Read.lean ====
/- The kernel's group sums read at an index over the extended reals: entry `(s, t)` of the accumulated histogram is the
   sum over groups, pairs of rows and lanes of the product of two responses. -/
module

public import proofs.«01_k».proof.Proof.Body
public import proofs.«01_k».proof.Proof.Sums
public import Idealize.ShloMosaic.Lib.Pointwise

@[expose] public section

noncomputable section

open Idealize.ShloMosaic Idealize.ShloMosaic.TcCoe Idealize.SL.Sem

namespace Cert.KernelIdeal.Hist

open Cert.KernelIdeal Cert.KernelIdeal.Gen Cert.HistSums

set_option maxRecDepth 16384

/-- The response to a distance, as the kernel spells it. -/
def resp (d : EReal) : EReal := FloatOps.exp2 (F := Ideal) (φ := .bf16) (d * d * Named.named (F := Ideal) (φ := .bf16) κ "c2" 0xC390#16)

theorem pairK_apply (v1 : FVec Ideal S64x1 .bf16) (ra rb : Vec Ideal S1x1x512 .f32) (s : Fin 64) (l : Fin 512) :
    pairK v1 ra rb (ix2 s l) = resp ((if s.val % 2 < 1 then ra (ix3 0 0 l) else rb (ix3 0 0 l)) - v1 (ix2 s 0)) := by
  pointwise [pairK, pairDist]
  rfl

/-- Sublane `s` of a pair holds its row `s % 2`. -/
theorem pairK_row (v1 : FVec Ideal S64x1 .bf16) (a : Fin 512 → Vec Ideal S1x1x512 .f32) (r q : ℕ) (hr : r < 512)
    (hq : q < 512) (e : q = r + 1) (s : Fin 64) (l : Fin 512) :
    pairK v1 (a ⟨r, hr⟩) (a ⟨q, hq⟩) (ix2 s l)
      = resp (a ⟨r + s.val % 2, by omega⟩ (ix3 0 0 l) - v1 (ix2 s 0)) := by
  rw [pairK_apply]
  subst e
  rcases Nat.mod_two_eq_zero_or_one s.val with h | h
  · simp only [h, Nat.add_zero]; rfl
  · simp only [h]; rfl

theorem resp_row (a : Fin 512 → Vec Ideal S1x1x512 .f32) {r r' l l' : Fin 512} {v : EReal} (hr : r.val = r'.val)
    (hl : l.val = l'.val) : resp (a r (ix3 0 0 l) - v) = resp (a r' (ix3 0 0 l') - v) := by
  rw [Fin.ext hr, Fin.ext hl]

/-- The responses of group `g` at lane `512 j + l`. -/
theorem groupK_apply (v1 : FVec Ideal S64x1 .bf16) (a : Fin 512 → Vec Ideal S1x1x512 .f32) (g : ℕ) (h : g < 64)
    (s : Fin 64) (j : Fin 4) (l : Fin 512) (hx : 512 * j.val + l.val < 2048) :
    groupK v1 a g h (ix2 s ⟨512 * j.val + l.val, hx⟩)
      = resp (a ⟨8 * g + 2 * j.val + s.val % 2, by omega⟩ (ix3 0 0 l) - v1 (ix2 s 0)) := by
  have hl := l.isLt
  pointwise [groupK]
  fin_vals j with hj
  · rw [dif_pos (by omega), pairK_row v1 a _ _ _ _ (by omega)]
    exact resp_row a (by dsimp only; omega) (by dsimp only; omega)
  · rw [dif_neg (by omega), dif_pos (by omega), pairK_row v1 a _ _ _ _ (by omega)]
    exact resp_row a (by dsimp only; omega) (by dsimp only; omega)
  · rw [dif_neg (by omega), dif_neg (by omega), dif_pos (by omega), pairK_row v1 a _ _ _ _ (by omega)]
    exact resp_row a (by dsimp only; omega) (by dsimp only; omega)
  · rw [dif_neg (by omega), dif_neg (by omega), dif_neg (by omega), pairK_row v1 a _ _ _ _ (by omega)]
    exact resp_row a (by dsimp only; omega) (by dsimp only; omega)

theorem groupHist_apply (v1 : FVec Ideal S64x1 .bf16) (a b : Fin 512 → Vec Ideal S1x1x512 .f32) (g : ℕ) (h : g < 64) (s t : Fin 64) :
    groupHist v1 a b g h (ix2 s t) = ∑ j : Fin 4, ∑ l : Fin 512,
      resp (a ⟨8 * g + 2 * j.val + s.val % 2, by omega⟩ (ix3 0 0 l) - v1 (ix2 s 0))
      * resp (b ⟨8 * g + 2 * j.val + t.val % 2, by omega⟩ (ix3 0 0 l) - v1 (ix2 t 0)) := by
  have e : groupHist v1 a b g h (ix2 s t) = ∑ x : Fin 2048, groupK v1 a g h (ix2 s x) * groupK v1 b g h (ix2 t x) := by
    pointwise [groupHist]
  rw [e, sum_runs 4 512 rfl]
  exact Finset.sum_congr rfl fun j _ => Finset.sum_congr rfl fun l _ =>
    congrArg₂ (· * ·) (groupK_apply v1 a g h s j l _) (groupK_apply v1 b g h t j l _)

theorem hist_eq_sum (v1 : FVec Ideal S64x1 .bf16) (a b : Fin 512 → Vec Ideal S1x1x512 .f32) (i : S64x64.Idx) :
    ∀ (g : ℕ) (h : g < 64), hist v1 a b g h i = ∑ k : Fin (g + 1), groupHist v1 a b k.val (by omega) i
  | 0, h => by rw [Fin.sum_univ_one]; rfl
  | g + 1, h => by
    rw [Fin.sum_univ_castSucc]
    show hist v1 a b g _ i + groupHist v1 a b (g + 1) h i = _
    rw [hist_eq_sum v1 a b i g]
    rfl

theorem row_apply (x : Vec Ideal S1x512x512 .f32) (r l : Fin 512) : row x r (ix3 0 0 l) = x (ix3 0 r l) := by
  unfold row
  pointwise

theorem binCol_apply (x : Vec Ideal S64x128 .bf16) (s : Fin 64) : binCol x (ix2 s 0) = x (ix2 s 0) := by
  unfold binCol
  pointwise

/-- Even and odd sublanes of one bin added: the histogram entry is a sum over all the pixels. -/
theorem hist_diag (x2 : Vec Ideal S64x128 .bf16) (xa xb : Vec Ideal S1x512x512 .f32) (s t : Fin 32)
    (u v : EReal) (hu : x2 (ix2 ⟨2 * s.val, by omega⟩ 0) = u) (hu' : x2 (ix2 ⟨2 * s.val + 1, by omega⟩ 0) = u)
    (hv : x2 (ix2 ⟨2 * t.val, by omega⟩ 0) = v) (hv' : x2 (ix2 ⟨2 * t.val + 1, by omega⟩ 0) = v) :
    hist (binCol x2) (row xa) (row xb) 63 (by decide) (ix2 ⟨2 * s.val, by omega⟩ ⟨2 * t.val, by omega⟩)
      + hist (binCol x2) (row xa) (row xb) 63 (by decide) (ix2 ⟨2 * s.val + 1, by omega⟩ ⟨2 * t.val + 1, by omega⟩)
      = ∑ r : Fin 512, ∑ l : Fin 512, resp (xa (ix3 0 r l) - u) * resp (xb (ix3 0 r l) - v) := by
  rw [hist_eq_sum, hist_eq_sum, ← sum_rows]
  have hs : (2 * s.val) % 2 = 0 := by omega
  have ht : (2 * t.val) % 2 = 0 := by omega
  have hs' : (2 * s.val + 1) % 2 = 1 := by omega
  have ht' : (2 * t.val + 1) % 2 = 1 := by omega
  simp only [groupHist_apply, row_apply, binCol_apply, hu, hu', hv, hv', hs, ht, hs', ht']

end Cert.KernelIdeal.Hist

end
-- ==== Proof.Entry.lean ====
/- What the kernel's windows read over the extended reals: the image's planes as one stack of 32, and each bin's centre on
   two neighbouring sublanes. -/
module

public import proofs.«01_k».proof.Proof.Gen.KernelIdeal.Frame
public import proofs.«01_k».proof.Proof.Gauss
public import Idealize.ShloMosaic.Lib.Pointwise
public import Idealize.ShloMosaic.Lib.Pipeline.ValueKit.Point
public import Idealize.ShloMosaic.Lib.StableHlo.ReadAt
public import Idealize.ShloMosaic.Lib.Claim

@[expose] public section

noncomputable section

open Idealize.ShloMosaic Idealize.ShloMosaic.TcCoe Idealize.SL.Sem

namespace Cert.KernelIdeal.Hist

open Cert.KernelIdeal Cert.KernelIdeal.Gen Cert.Gauss

set_option maxRecDepth 16384

variable (m : (ℓ : Loc nD τ sig) → Buf (Elt Ideal) ℓ)

/-- The image the run starts from. -/
abbrev img (c : Dev nD) (n : Fin 16) (p : Fin 2) (r l : Fin 512) : EReal :=
  (m ((c.tc : Thread nD τ).loc main_arg0) : Vec Ideal S16x2x512x512 .f32) (ix4 n p r l)

/-- The stacked planes as the region finds them. -/
abbrev planes (c : Dev nD) : Vec Ideal S32x512x512 .f32 := V m c main_v0

/-- The bin block as the region finds it. -/
abbrev bins (c : Dev nD) : Vec Ideal S64x128 .bf16 := V m c main_v6

theorem planes_apply (c : Dev nD) (q : Fin 32) (r l : Fin 512) :
    planes m c (ix3 q r l) = img m c ⟨q.val / 2, by omega⟩ ⟨q.val % 2, by omega⟩ r l := by
  unfold planes V V0
  after_reads_at

theorem bins_apply (c : Dev nD) (s : Fin 64) :
    bins m c (ix2 s 0) = bin ⟨s.val / 2, by omega⟩ := by
  unfold bins V V0
  after_reads_at
  after_reads_at
  unfold bin
  rfl

end Cert.KernelIdeal.Hist

end
-- ==== Proof.Value.lean ====
/- The kernel's result over the extended reals: the region leaves the 64 by 64 histogram of each image, and the lines
   after it add the two entries of each pair of bins. -/
module

public import proofs.«01_k».proof.Proof.Read
public import proofs.«01_k».proof.Proof.Entry
public import Idealize.ShloMosaic.Lib.Pipeline.Value

@[expose] public section

noncomputable section

open Idealize.ShloMosaic Idealize.ShloMosaic.TcCoe Idealize.SL.Sem

namespace Cert.KernelIdeal.Hist

open Cert.KernelIdeal Cert.KernelIdeal.Gen Cert.Gauss

set_option maxRecDepth 16384

variable (m : (ℓ : Loc nD τ sig) → Buf (Elt Ideal) ℓ)

/-- Plane `q` of the stack, as a block. -/
def plane (c : Dev nD) (q : Fin 32) : Vec Ideal S1x512x512 .f32 := fun j => planes m c (ix3 q (j 1) (j 2))

/-- The histogram of image `n` with its two parities of rows apart. -/
def parts (c : Dev nD) (n : Fin 16) : FVec Ideal S64x64 .f32 :=
  hist (binCol (bins m c)) (row (plane m c ⟨2 * n.val, by omega⟩)) (row (plane m c ⟨2 * n.val + 1, by omega⟩)) 63 (by decide)

/-- What the region leaves in its result array. -/
def stacked (c : Dev nD) : Vec Ideal S16x64x64 .f32 := fun i => parts m c (i 0) (ix2 (i 1) (i 2))

theorem idx : ∀ t : Fin cfg0.N, win0_0.index t = ![2 * t.val, 0, 0] ∧ win0_1.index t = ![2 * t.val + 1, 0, 0]
    ∧ win0_2.index t = ![0, 0] ∧ win0_3.index t = ![t.val, 0, 0] := by decide +kernel

theorem iblk_bins (c : Dev nD) (t : Fin cfg0.N) : iblk m c 2 t = bins m c := by
  funext j
  blk_simp [iblk, idx t]
  show V m c main_v6 _ = V m c main_v6 _
  blk_ext [idx t]

theorem iblk_a (c : Dev nD) (t : Fin cfg0.N) (n : Fin 16) (hn : n.val = t.val) :
    iblk m c 0 t = plane m c ⟨2 * n.val, by omega⟩ := by
  funext j
  unfold plane
  blk_simp [iblk, idx t]
  show V m c main_v0 _ = V m c main_v0 _
  blk_ext [idx t]

theorem iblk_b (c : Dev nD) (t : Fin cfg0.N) (n : Fin 16) (hn : n.val = t.val) :
    iblk m c 1 t = plane m c ⟨2 * n.val + 1, by omega⟩ := by
  funext j
  unfold plane
  blk_simp [iblk, idx t]
  show V m c main_v0 _ = V m c main_v0 _
  blk_ext [idx t]

theorem arr_eq (c : Dev nD) : (dats m 0 c).arrAt 3 cfg0.N = stacked m c := by
  refine (dats m 0 c).arrAt_eq_of_covers 3 _ (by decide +kernel) fun t hf y => ?_
  blk_simp
  rw [after0_3]
  unfold outsAt0
  have ht : t.val < 16 := Nat.lt_of_lt_of_eq t.isLt N_0
  rw [out_A, (hs0_0 t).read_unread, (hs0_1 t).read_unread, (hs0_2 t).read_unread, iblk_bins,
    iblk_a m c t ⟨t.val, ht⟩ rfl, iblk_b m c t ⟨t.val, ht⟩ rfl]
  show shapeCast S1x64x64 (parts m c ⟨t.val, ht⟩) shapeCasts_S64x64_S1x64x64 y = _
  have e0 : ((win0_3.blk t).view.emb y 0 : Fin 16) = ⟨t.val, ht⟩ := Fin.ext (by blk_simp [idx t])
  have e1 : ((win0_3.blk t).view.emb y 1 : Fin 64) = y 1 := Fin.ext (by blk_simp [idx t])
  have e2 : ((win0_3.blk t).view.emb y 2 : Fin 64) = y 2 := Fin.ext (by blk_simp [idx t])
  unfold stacked
  rw [e0, e1, e2]
  revert y
  intro (y : S1x64x64.Idx) _ _ _
  idx_vars y
  pointwise

/-- The lines after the region, read at an entry. -/
theorem tail_apply (c : Dev nD) (n : Fin 16) (a b : Fin 32) :
    (Pipeline.afterTail₀ cfgs (dats m) 0 (V0 m) [hostOps1] c main_v11 : Vec Ideal S16x1x32x32 .f32) (ix4 n 0 a b)
      = (parts m c n (ix2 ⟨2 * a.val, by omega⟩ ⟨2 * b.val, by omega⟩)
        + parts m c n (ix2 ⟨2 * a.val + 1, by omega⟩ ⟨2 * b.val + 1, by omega⟩) : EReal) := by
  unfold Pipeline.afterTail₀
  after_reads_at
  have h : Pipeline.withArrays (cfgs 0).spec c (V0 m c) (fun w => (dats m 0 c).arrAt w (cfgs 0).N) (Proc.tc.devRef main_v7)
      = stacked m c :=
    ((dats m 0 c).withArrays_arrAt sharedIn0 (V0 m c) (A_eq m c) 3).trans (arr_eq m c)
  rw [h]
  unfold stacked
  simp only [Nat.add_comm 1]
  rfl

/-- The kernel's response is the reference's. -/
theorem resp_eq (d : EReal) : resp d = gauss d := by
  unfold resp
  rw [IdealRules.named_const.ideal_named_scalar _ _ _ _ rfl]
  exact exp2_eq_gauss d

theorem plane_apply (c : Dev nD) (n : Fin 16) (r l : Fin 512) :
    plane m c ⟨2 * n.val, by omega⟩ (ix3 0 r l) = img m c n 0 r l
    ∧ plane m c ⟨2 * n.val + 1, by omega⟩ (ix3 0 r l) = img m c n 1 r l := by
  have h0 : (⟨2 * n.val / 2, by omega⟩ : Fin 16) = n := Fin.ext (by dsimp only; omega)
  have h1 : (⟨(2 * n.val + 1) / 2, by omega⟩ : Fin 16) = n := Fin.ext (by dsimp only; omega)
  have g0 : (⟨2 * n.val % 2, by omega⟩ : Fin 2) = 0 := Fin.ext (by show 2 * n.val % 2 = 0; omega)
  have g1 : (⟨(2 * n.val + 1) % 2, by omega⟩ : Fin 2) = 1 := Fin.ext (by show (2 * n.val + 1) % 2 = 1; omega)
  constructor
  · exact (planes_apply m c _ r l).trans (by simp only [h0, g0])
  · exact (planes_apply m c _ r l).trans (by simp only [h1, g1])

theorem bins_even (c : Dev nD) (s : Fin 32) : bins m c (ix2 ⟨2 * s.val, by omega⟩ 0) = bin s :=
  (bins_apply m c _).trans (congrArg bin (Fin.ext (by dsimp only; omega)))

theorem bins_odd (c : Dev nD) (s : Fin 32) : bins m c (ix2 ⟨2 * s.val + 1, by omega⟩ 0) = bin s :=
  (bins_apply m c _).trans (congrArg bin (Fin.ext (by dsimp only; omega)))

/-- Entry `(a, b)` of image `n` of the kernel's result: the reference's sum. -/
theorem result_apply (c : Dev nD) (n : Fin 16) (a b : Fin 32) :
    (Pipeline.afterTail₀ cfgs (dats m) 0 (V0 m) [hostOps1] c main_v11 : Vec Ideal S16x1x32x32 .f32) (ix4 n 0 a b)
      = (∑ r : Fin 512, ∑ l : Fin 512, gauss (img m c n 0 r l - bin a) * gauss (img m c n 1 r l - bin b) : EReal) := by
  rw [tail_apply]
  unfold parts
  refine (hist_diag (bins m c) _ _ a b (bin a) (bin b) (bins_even m c a) (bins_odd m c a) (bins_even m c b)
    (bins_odd m c b)).trans ?_
  simp only [plane_apply, resp_eq]

end Cert.KernelIdeal.Hist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its argument unchanged and no semaphore counted. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ledger's one entry: `c2` is `-200 / ln 2`. -/
theorem named : Cert.preserves_Kernel_KernelIdeal :=
  IdealRules.named_const.statement Cert.KernelIdeal.κ "c2" .bf16 0xC390#16 (((-200) * (Real.log 2)⁻¹ : ℝ) : EReal) rfl

/-- From arguments that agree, the two results agree entry by entry. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Value.res_main_v30 m' c : Vec Ideal Cert.ReferenceIdeal.S16x1x32x32 .f32)
      = (Pipeline.afterTail₀ Cert.KernelIdeal.cfgs (Cert.KernelIdeal.Gen.dats m) 0 (Cert.KernelIdeal.Gen.V0 m)
          [Cert.KernelIdeal.Gen.hostOps1] c Cert.KernelIdeal.main_v11 : Vec Ideal Cert.KernelIdeal.S16x1x32x32 .f32) := by
  funext i
  revert i
  intro (i : Cert.KernelIdeal.S16x1x32x32.Idx)
  idx_vars i
  obtain rfl : i1 = 0 := Subsingleton.elim _ _
  refine (Cert.ReferenceIdeal.Hist.res_apply m' c i0 i2 i3).trans (Eq.trans ?_ (Cert.KernelIdeal.Hist.result_apply m c i0 i2 i3).symm)
  simp only [Cert.ReferenceIdeal.Hist.img, h]

theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
          [Cert.KernelIdeal.Gen.hostOps1] c Cert.KernelIdeal.main_v11, ?_, ?_⟩
  · exact (θ_run Cert.KernelIdeal.defs _ _).mono (fun r h c =>
      ⟨(h.1 c).2 Cert.KernelIdeal.main_v11 (Pipeline.mem_restRefs_of Cert.KernelIdeal.main_v11 (by decide) (by decide)), h.2 c⟩)
      (θ_run_and (Cert.KernelIdeal.Gen.run_main m ρ) (Cert.KernelIdeal.Gen.unchanged m ρ))
  · exact (θ_run Cert.ReferenceIdeal.defs _ _).mono (fun r h c => ⟨(h c).1.trans (results_eq m m' c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, named, algebraic⟩

end Cert.Proof

end
